-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x256x64 : Shape := ⟨4, ![16, 256, 256, 64]⟩
abbrev S16x256x256x3 : Shape := ⟨4, ![16, 256, 256, 3]⟩
abbrev S16x3x256x256 : Shape := ⟨4, ![16, 3, 256, 256]⟩
abbrev S48x256x256 : Shape := ⟨3, ![48, 256, 256]⟩
abbrev S256 : Shape := ⟨1, ![256]⟩
abbrev S1024 : Shape := ⟨1, ![1024]⟩
abbrev S_ : Shape := ⟨0, ![]⟩
abbrev S1024x1 : Shape := ⟨2, ![1024, 1]⟩
abbrev S1x256 : Shape := ⟨2, ![1, 256]⟩
abbrev S1024x256 : Shape := ⟨2, ![1024, 256]⟩
abbrev S768 : Shape := ⟨1, ![768]⟩
abbrev S768x1 : Shape := ⟨2, ![768, 1]⟩
abbrev S1x1024 : Shape := ⟨2, ![1, 1024]⟩
abbrev S768x1024 : Shape := ⟨2, ![768, 1024]⟩
abbrev S1x1024x1x1 : Shape := ⟨4, ![1, 1024, 1, 1]⟩
abbrev S1x1024x128x1 : Shape := ⟨4, ![1, 1024, 128, 1]⟩
abbrev S1024x128 : Shape := ⟨2, ![1024, 128]⟩
abbrev S48x1024x1024 : Shape := ⟨3, ![48, 1024, 1024]⟩
abbrev S4x256x256 : Shape := ⟨3, ![4, 256, 256]⟩
abbrev S4x1024x1024 : Shape := ⟨3, ![4, 1024, 1024]⟩
abbrev S1x256x256 : Shape := ⟨3, ![1, 256, 256]⟩
abbrev S256x256 : Shape := ⟨2, ![256, 256]⟩
abbrev S4x256 : Shape := ⟨2, ![4, 256]⟩
abbrev S1020x256 : Shape := ⟨2, ![1020, 256]⟩
abbrev S1024x255 : Shape := ⟨2, ![1024, 255]⟩
abbrev S1024x768 : Shape := ⟨2, ![1024, 768]⟩
abbrev S1024x1024 : Shape := ⟨2, ![1024, 1024]⟩
abbrev S1x1024x1024 : Shape := ⟨3, ![1, 1024, 1024]⟩

abbrev nBuf : Space → Nat
  | .hbm => 91
  | .vmem => 8
  | .smem => 0
  | _ => 0

abbrev bufTy : (tb : Table) → Fin (tcTables nBuf tb) → BufTy
  | .hbm, ⟨0, _⟩ => ⟨S16x256x256x64, .f32⟩
  | .hbm, ⟨1, _⟩ => ⟨S16x256x256x3, .f32⟩
  | .hbm, ⟨2, _⟩ => ⟨S16x3x256x256, .f32⟩
  | .hbm, ⟨3, _⟩ => ⟨S48x256x256, .f32⟩
  | .hbm, ⟨4, _⟩ => ⟨S48x256x256, .bf16⟩
  | .hbm, ⟨5, _⟩ => ⟨S256, .i32⟩
  | .hbm, ⟨6, _⟩ => ⟨S1024, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S_, .i32⟩
  | .hbm, ⟨40, _⟩ => ⟨S_, .i1⟩
  | .hbm, ⟨41, _⟩ => ⟨S1024, .i1⟩
  | .hbm, ⟨42, _⟩ => ⟨S1024, .i1⟩
  | .hbm, ⟨43, _⟩ => ⟨S1024, .i1⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1024x1, .i32⟩
  | .hbm, ⟨48, _⟩ => ⟨S1x256, .i32⟩
  | .hbm, ⟨49, _⟩ => ⟨S1024x256, .i32⟩
  | .hbm, ⟨50, _⟩ => ⟨S1024x256, .i32⟩
  | .hbm, ⟨51, _⟩ => ⟨S1024x256, .i1⟩
  | .hbm, ⟨52, _⟩ => ⟨S1024x256, .bf16⟩
  | .hbm, ⟨53, _⟩ => ⟨S_, .i32⟩
  | .hbm, ⟨54, _⟩ => ⟨S1024, .i32⟩
  | .hbm, ⟨55, _⟩ => ⟨S1024, .i1⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S_, .i32⟩
  | .hbm, ⟨63, _⟩ => ⟨S1024, .i32⟩
  | .hbm, ⟨64, _⟩ => ⟨S1024, .i32⟩
  | .hbm, ⟨65, _⟩ => ⟨S1024, .i32⟩
  | .hbm, ⟨66, _⟩ => ⟨S1024, .i32⟩
  | .hbm, ⟨67, _⟩ => ⟨S768, .i32⟩
  | .hbm, ⟨68, _⟩ => ⟨S768x1, .i32⟩
  | .hbm, ⟨69, _⟩ => ⟨S1x1024, .i32⟩
  | .hbm, ⟨70, _⟩ => ⟨S768x1024, .i32⟩
  | .hbm, ⟨71, _⟩ => ⟨S768x1024, .i32⟩
  | .hbm, ⟨72, _⟩ => ⟨S768x1024, .i1⟩
  | .hbm, ⟨73, _⟩ => ⟨S768x1024, .bf16⟩
  | .hbm, ⟨74, _⟩ => ⟨S_, .i32⟩
  | .hbm, ⟨75, _⟩ => ⟨S1024, .i32⟩
  | .hbm, ⟨76, _⟩ => ⟨S1024, .i1⟩
  | .hbm, ⟨77, _⟩ => ⟨S1024, .f32⟩
  | .hbm, ⟨78, _⟩ => ⟨S1024x1, .f32⟩
  | .hbm, ⟨79, _⟩ => ⟨S1x1024x1x1, .f32⟩
  | .hbm, ⟨80, _⟩ => ⟨S1x1024x128x1, .f32⟩
  | .hbm, ⟨81, _⟩ => ⟨S1024x128, .f32⟩
  | .hbm, ⟨82, _⟩ => ⟨S_, .i32⟩
  | .hbm, ⟨83, _⟩ => ⟨S1024, .i32⟩
  | .hbm, ⟨84, _⟩ => ⟨S1024, .i1⟩
  | .hbm, ⟨85, _⟩ => ⟨S1024, .f32⟩
  | .hbm, ⟨86, _⟩ => ⟨S1024x1, .f32⟩
  | .hbm, ⟨87, _⟩ => ⟨S1x1024x1x1, .f32⟩
  | .hbm, ⟨88, _⟩ => ⟨S1x1024x128x1, .f32⟩
  | .hbm, ⟨89, _⟩ => ⟨S1024x128, .f32⟩
  | .hbm, ⟨90, _⟩ => ⟨S48x1024x1024, .f32⟩
  | .local _ .vmem, ⟨0, _⟩ => ⟨S4x256x256, .bf16⟩
  | .local _ .vmem, ⟨1, _⟩ => ⟨S4x256x256, .bf16⟩
  | .local _ .vmem, ⟨2, _⟩ => ⟨S1024x256, .bf16⟩
  | .local _ .vmem, ⟨3, _⟩ => ⟨S768x1024, .bf16⟩
  | .local _ .vmem, ⟨4, _⟩ => ⟨S1024x128, .f32⟩
  | .local _ .vmem, ⟨5, _⟩ => ⟨S1024x128, .f32⟩
  | .local _ .vmem, ⟨6, _⟩ => ⟨S4x1024x1024, .f32⟩
  | .local _ .vmem, ⟨7, _⟩ => ⟨S4x1024x1024, .f32⟩
  | _, _ => ⟨S16x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v6 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_v14 : Ref sig .tc := ⟨.hbm, 54, rfl⟩
abbrev main_v15 : Ref sig .tc := ⟨.hbm, 55, rfl⟩
abbrev main_c_2 : Ref sig .tc := ⟨.hbm, 56, rfl⟩
abbrev main_v16 : Ref sig .tc := ⟨.hbm, 57, rfl⟩
abbrev main_v17 : Ref sig .tc := ⟨.hbm, 58, rfl⟩
abbrev main_c_3 : Ref sig .tc := ⟨.hbm, 59, rfl⟩
abbrev main_v18 : Ref sig .tc := ⟨.hbm, 60, rfl⟩
abbrev main_v19 : Ref sig .tc := ⟨.hbm, 61, rfl⟩
abbrev main_c_4 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c_5 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_6 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x256x256x64 : Shape := ⟨4, ![16, 256, 256, 64]⟩
abbrev S16x256x256x3 : Shape := ⟨4, ![16, 256, 256, 3]⟩
abbrev S16x3x256x256 : Shape := ⟨4, ![16, 3, 256, 256]⟩
abbrev S_ : Shape := ⟨0, ![]⟩
abbrev S16x3x1021x1021 : Shape := ⟨4, ![16, 3, 1021, 1021]⟩
abbrev S16x3x1024x1024 : Shape := ⟨4, ![16, 3, 1024, 1024]⟩
abbrev S48x1024x1024 : Shape := ⟨3, ![48, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16x256x256x64, .f32⟩
  | .hbm, ⟨1, _⟩ => ⟨S16x256x256x3, .f32⟩
  | .hbm, ⟨2, _⟩ => ⟨S16x3x256x256, .f32⟩
  | .hbm, ⟨3, _⟩ => ⟨S_, .f32⟩
  | .hbm, ⟨4, _⟩ => ⟨S16x3x1021x1021, .f32⟩
  | .hbm, ⟨5, _⟩ => ⟨S_, .f32⟩
  | .hbm, ⟨6, _⟩ => ⟨S16x3x1024x1024, .f32⟩
  | .hbm, ⟨7, _⟩ => ⟨S_, .f32⟩
  | .hbm, ⟨8, _⟩ => ⟨S16x3x1024x1024, .f32⟩
  | .hbm, ⟨9, _⟩ => ⟨S16x3x1024x1024, .f32⟩
  | .hbm, ⟨10, _⟩ => ⟨S48x1024x1024, .f32⟩
  | _, _ => ⟨S16x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Window.lean ====
/- Which pixels an output position sees, and the order arguments about maxima that compare two programs by their upper
   bounds. -/
module

public import Idealize.ShloMosaic.Lib.Pointwise

@[expose] public section

namespace Cert.KernelIdeal.Own

/-- Pixel `x` of a 256-pixel axis counts at output lane `p` of the 1024-lane axis. -/
def Sees (p : Fin 1024) (x : Fin 256) : Prop := p.val ≤ 4 * x.val + 6 ∧ 4 * x.val ≤ p.val + 3

/-- The pixel under output lane `p`. -/
def quo (p : Fin 1024) : Fin 256 := ⟨p.val / 4, by omega⟩
/-- The pixel before `x`, or `x` itself at the axis's start. -/
def prev (x : Fin 256) : Fin 256 := ⟨x.val - 1, by omega⟩
/-- The pixel after `x`, or `x` itself at the axis's end. -/
def next (x : Fin 256) : Fin 256 := if h : x.val < 255 then ⟨x.val + 1, by omega⟩ else x

/-- The value of `next`. -/
theorem next_val (x : Fin 256) : (next x).val = if x.val < 255 then x.val + 1 else x.val := by
  unfold next; split_ifs <;> rfl

/-- What holds at every pixel seen from lane `p` holds at the pixel under it, at the one before it where the remainder by 4
    is at most 2, and at the one after it where the remainder is at least 1; and the other way round. -/
theorem forall_sees_iff (P : Fin 256 → Prop) (p : Fin 1024) :
    (∀ x, Sees p x → P x) ↔ P (quo p) ∧ (p.val % 4 ≤ 2 → P (prev (quo p))) ∧ (1 ≤ p.val % 4 → P (next (quo p))) := by
  have hp := p.isLt
  constructor
  · intro h
    refine ⟨h _ ?_, fun hr => h _ ?_, fun hr => h _ ?_⟩ <;> unfold Sees <;>
      simp only [quo, prev, next_val] <;> (try split_ifs) <;> omega
  · rintro ⟨h0, h1, h2⟩ x ⟨ha, hb⟩
    by_cases e0 : x.val = p.val / 4
    · rwa [show x = quo p from Fin.ext e0]
    by_cases e1 : x.val + 1 = p.val / 4
    · rw [show x = prev (quo p) from Fin.ext (by simp only [prev, quo]; omega)]
      exact h1 (by omega)
    · have hq : (quo p).val < 255 := by simp only [quo]; omega
      have hx : x = next (quo p) := by
        refine Fin.ext ?_
        rw [next_val, if_pos hq]
        simp only [quo]; omega
      rw [hx]
      exact h2 (by omega)

/-- `c` bounds 0 and every pixel of `v` that output position `(p, s)` sees. -/
def Bounds (v : Fin 256 → Fin 256 → EReal) (p s : Fin 1024) (c : EReal) : Prop :=
  0 ≤ c ∧ ∀ x, Sees p x → ∀ y, Sees s y → v x y ≤ c

/-- The function that both programs compute: the maximum of 0 and of every pixel of `v` that output position `(p, s)` sees. -/
noncomputable def best (v : Fin 256 → Fin 256 → EReal) (p s : Fin 1024) : EReal :=
  max 0 (⨆ x, ⨆ (_ : Sees p x), ⨆ y, ⨆ (_ : Sees s y), v x y)

/-- The upper bounds of `best` are those of 0 and of the seen pixels. -/
theorem best_le_iff (v : Fin 256 → Fin 256 → EReal) (p s : Fin 1024) (c : EReal) : best v p s ≤ c ↔ Bounds v p s c := by
  simp only [best, Bounds, max_le_iff, iSup_le_iff]

/-- An extended real with the upper bounds of 0 and of the seen pixels is `best`. -/
theorem eq_best {v : Fin 256 → Fin 256 → EReal} {p s : Fin 1024} {a : EReal} (h : ∀ c, a ≤ c ↔ Bounds v p s c) : a = best v p s :=
  eq_of_forall_ge_iff fun c => (h c).trans (best_le_iff v p s c).symm

/-- Row step: the larger of the pixel under the lane, of the one before it where the lane's remainder allows it and of the
    one after it likewise has the seen pixels' upper bounds, where the pixels are taken with 0. -/
theorem rows_le_iff (f : Fin 256 → EReal) (p : Fin 1024) (c : EReal) :
    max (max (max (f (quo p)) 0) (if p.val % 4 ≤ 2 then max (f (prev (quo p))) 0 else 0))
        (if 1 ≤ p.val % 4 then max (f (next (quo p))) 0 else 0) ≤ c
      ↔ 0 ≤ c ∧ ∀ x, Sees p x → f x ≤ c := by
  rw [forall_sees_iff (fun x => f x ≤ c) p]
  split_ifs with h1 h2 h2 <;> simp only [max_le_iff, h1, h2, true_implies, false_implies, and_true, true_and] <;> tauto

/-- Column step: the maximum that lane `s` takes of row maxima `o` is below `c` exactly when `o` is at every seen pixel. -/
theorem cols_le_iff (o : Fin 256 → EReal) (s : Fin 1024) (c : EReal) :
    (if s.val % 4 = 0 then max (o (prev (quo s))) (o (quo s))
      else if s.val % 4 = 3 then max (o (quo s)) (o (next (quo s)))
      else max (max (o (prev (quo s))) (o (quo s))) (o (next (quo s)))) ≤ c
      ↔ ∀ y, Sees s y → o y ≤ c := by
  rw [forall_sees_iff (fun y => o y ≤ c) s]
  have hs := Nat.mod_lt s.val (show 0 < 4 by decide)
  split_ifs with h0 h3
  · have a1 : s.val % 4 ≤ 2 := by omega
    have a2 : ¬ 1 ≤ s.val % 4 := by omega
    simp only [max_le_iff, a1, a2]; tauto
  · have a1 : ¬ s.val % 4 ≤ 2 := by omega
    have a2 : 1 ≤ s.val % 4 := by omega
    simp only [max_le_iff, a1, a2]; tauto
  · have a1 : s.val % 4 ≤ 2 := by omega
    have a2 : 1 ≤ s.val % 4 := by omega
    simp only [max_le_iff, a1, a2]; tauto

/-- A lane sees at least one pixel. -/
theorem sees_quo (p : Fin 1024) : Sees p (quo p) := by
  unfold Sees quo; dsimp only; omega

/-- Rows, then columns: if each entry of `o` has the row step's upper bounds, the column step of `o` has the bounds of the
    whole window. -/
theorem window_le_iff (v : Fin 256 → Fin 256 → EReal) (p s : Fin 1024) (c : EReal) (o : Fin 256 → EReal)
    (ho : ∀ y, o y ≤ c ↔ 0 ≤ c ∧ ∀ x, Sees p x → v x y ≤ c) :
    (∀ y, Sees s y → o y ≤ c) ↔ Bounds v p s c := by
  unfold Bounds
  constructor
  · intro h
    exact ⟨((ho _).mp (h _ (sees_quo s))).1, fun x hx y hy => ((ho y).mp (h y hy)).2 x hx⟩
  · rintro ⟨h0, h⟩ y hy
    exact (ho y).mpr ⟨h0, fun x hx => h x hx y hy⟩

/-- A sum against a 0/1 row that selects `q` is the entry at `q`, whatever the other entries are. -/
theorem sum_select {n : ℕ} (f : Fin n → EReal) (q : Fin n) : (∑ k, (if q.val = k.val then (1 : EReal) else 0) * f k) = f q := by
  rw [Finset.sum_eq_single q]
  · simp
  · intro k _ hk
    rw [if_neg (fun h => hk (Fin.ext h.symm)), zero_mul]
  · simp

/-- The same with the 0/1 column on the right. -/
theorem sum_select' {n : ℕ} (f : Fin n → EReal) (q : Fin n) : (∑ k, f k * (if k.val = q.val then (1 : EReal) else 0)) = f q := by
  rw [Finset.sum_eq_single q]
  · simp
  · intro k _ hk
    rw [if_neg (fun h => hk (Fin.ext h)), mul_zero]
  · simp

end Cert.KernelIdeal.Own
-- ==== Proof.Words.lean ====
/- The index words of the host program before the launch: the quotient and the remainder of a lane number by 4, the
   column that the second matrix product selects, and a comparison converted to a float 0 or 1. -/
module

public import Idealize.ShloMosaic.Lib.Pointwise
public import Idealize.ShloMosaic.Lib.Tactic.WordOmega

@[expose] public section

set_option maxRecDepth 16384

noncomputable section

open Idealize.ShloMosaic

namespace Cert.KernelIdeal.Own

/-- The sign of a word as the host program computes it: 0, -1 or 1. -/
abbrev signW (w : BitVec 32) : BitVec 32 := if w = 0 then 0 else if w.msb = true then -1 else 1

/-- The host program's floor division of a word by 4. -/
def quotW (w : BitVec 32) : BitVec 32 :=
  Scalar.select (IntOp.andi (IntOp.cmpi .ne (signW w) (signW 4#32)) (IntOp.cmpi .ne (IntOp.remsi .host w 4#32) 0#32))
    (IntOp.subi (IntOp.divsi .host w 4#32) 1#32) (IntOp.divsi .host w 4#32)

/-- The divisor of the host program's remainder: 4, behind a test for 0. -/
abbrev fourW : BitVec 32 := Scalar.select (IntOp.cmpi .eq 4#32 0#32) 1#32 4#32

/-- The host program's remainder of a word by 4, with the sign of the divisor. -/
def remW (w : BitVec 32) : BitVec 32 :=
  Scalar.select
    (IntOp.andi (IntOp.cmpi .ne (IntOp.cmpi .slt (IntOp.remsi .host w fourW) 0#32) (IntOp.cmpi .slt fourW 0#32))
      (IntOp.cmpi .ne (IntOp.remsi .host w fourW) 0#32))
    (IntOp.addi (IntOp.remsi .host w fourW) fourW) (IntOp.remsi .host w fourW)

/-- The column of the three stacked blocks that the host program names for a lane. -/
def srcW (w : BitVec 32) : BitVec 32 :=
  Scalar.select (IntOp.cmpi .eq (remW w) 0#32) (quotW w)
    (Scalar.select (IntOp.cmpi .eq (remW w) 3#32) (IntOp.addi 512#32 (quotW w)) (IntOp.addi 256#32 (quotW w)))

/-- The column of the three stacked blocks that lane `p` reads: its quotient in the first block where the remainder by 4
    is 0, in the third where it is 3, in the second otherwise. -/
def src (p : ℕ) : ℕ := if p % 4 = 0 then p / 4 else if p % 4 = 3 then 512 + p / 4 else 256 + p / 4

/-- Of a lane number below 1024 the quotient word is the quotient. -/
theorem quotW_ofNat : ∀ p : Fin 1024, quotW (BitVec.ofNat 32 p.val) = BitVec.ofNat 32 (p.val / 4) := by decide +kernel

/-- Of a lane number below 1024 the remainder word is the remainder. -/
theorem remW_ofNat : ∀ p : Fin 1024, remW (BitVec.ofNat 32 p.val) = BitVec.ofNat 32 (p.val % 4) := by decide +kernel

/-- Of a lane number below 1024 the column word is the column. -/
theorem srcW_ofNat : ∀ p : Fin 1024, srcW (BitVec.ofNat 32 p.val) = BitVec.ofNat 32 (src p.val) := by decide +kernel

/-- The column lies among the 768 of the stacked blocks. -/
theorem src_lt (p : Fin 1024) : src p.val < 768 := by unfold src; split_ifs <;> omega

/-- A bit converted to a float is 1 where the bit is set and 0 elsewhere. -/
theorem uitofp_bit (φ : FTy) (b : BitVec 1) : (FloatOps.uitofp φ b : Ideal φ) = if b = 1#1 then (1 : EReal) else 0 := by
  show (((b.toNat : ℝ) : EReal)) = _
  obtain h | h : b = 0#1 ∨ b = 1#1 := by revert b; decide
  · subst h; simp
  · subst h; simp

/-- Two small numbers' words compared for equality, as a float: 1 where the numbers are equal. -/
theorem uitofp_eq (φ : FTy) (a b : ℕ) (ha : a < 1024) (hb : b < 1024) :
    (FloatOps.uitofp φ (IntOp.cmpi .eq (BitVec.ofNat 32 a) (BitVec.ofNat 32 b)) : Ideal φ) = if a = b then (1 : EReal) else 0 := by
  rw [uitofp_bit]
  congr 1
  simp only [eq_iff_iff]
  word_omega

/-- A remainder word compared with 2, as a float: 1 where the remainder is at most 2. -/
theorem uitofp_rem_le (φ : FTy) (p : Fin 1024) :
    (FloatOps.uitofp φ (IntOp.cmpi .sle (remW (BitVec.ofNat 32 p.val)) 2#32) : Ideal φ) = if p.val % 4 ≤ 2 then (1 : EReal) else 0 := by
  rw [uitofp_bit, remW_ofNat]
  congr 1
  simp only [eq_iff_iff]
  revert p; decide +kernel

/-- A remainder word compared with 1, as a float: 1 where the remainder is at least 1. -/
theorem uitofp_rem_ge (φ : FTy) (p : Fin 1024) :
    (FloatOps.uitofp φ (IntOp.cmpi .sge (remW (BitVec.ofNat 32 p.val)) 1#32) : Ideal φ) = if 1 ≤ p.val % 4 then (1 : EReal) else 0 := by
  rw [uitofp_bit, remW_ofNat]
  congr 1
  simp only [eq_iff_iff]
  revert p; decide +kernel

end Cert.KernelIdeal.Own
-- ==== Proof.Body.lean ====
/- What the kernel's body computes for one image: a row stage, a column stage, and the selection of the columns. Each stage
   is read at an index, and the composition is compared with the window it is meant to cover. -/
module

public import proofs.«01_k».proof.Proof.Gen.KernelIdeal.Frame
public import proofs.«01_k».proof.Proof.Window
public import proofs.«01_k».proof.Proof.Words
public import Idealize.ShloMosaic.Lib.Pointwise

@[expose] public section

set_option maxRecDepth 16384

noncomputable section

open Idealize.ShloMosaic Idealize.ShloMosaic.TcCoe Idealize.SL.Sem

namespace Cert.KernelIdeal.Own
open Cert.KernelIdeal Cert.KernelIdeal.Gen

/-! ## The stages -/

/-- The image with its negative entries replaced by 0, its rows expanded to 1024. -/
def expand (v : FVec Ideal S256x256 .bf16) (e : FVec Ideal S1024x256 .bf16) : FVec Ideal S1024x256 .f32 :=
  matmul dot_S1024x256_S256x256_S1024x256_1_0_0_1_n_n none (shapeCast S1024x256 e shapeCasts_S1024x256_S1024x256)
    (maximumf v (broadcast S256x256 (Scalar.ofBits .bf16 0x0000#16))) (constant S1024x256 .f32 0x00000000#32)

/-- The rows moved down by four, the first four kept in place. -/
def fromAbove (u : FVec Ideal S1024x256 .f32) : FVec Ideal S1024x256 .f32 :=
  concatenate S1024x256 0 [⟨S4x256, extractStridedSlice S4x256 ![0, 0] u slices_S1024x256_o0_0_S4x256⟩,
    ⟨S1020x256, extractStridedSlice S1020x256 ![0, 0] u slices_S1024x256_o0_0_S1020x256⟩] concatenates_S4x256_S1020x256_S1024x256_d0

/-- The rows moved up by four, the last four kept in place. -/
def fromBelow (u : FVec Ideal S1024x256 .f32) : FVec Ideal S1024x256 .f32 :=
  concatenate S1024x256 0 [⟨S1020x256, extractStridedSlice S1020x256 ![4, 0] u slices_S1024x256_o4_0_S1020x256⟩,
    ⟨S4x256, extractStridedSlice S4x256 ![1020, 0] u slices_S1024x256_o1020_0_S4x256⟩] concatenates_S1020x256_S4x256_S1024x256_d0

/-- Row stage: the expanded rows against their masked neighbours. -/
def rowMax (ma mb u : FVec Ideal S1024x256 .f32) : FVec Ideal S1024x256 .f32 :=
  maximumf (maximumf u (mulf (fromAbove u) ma)) (mulf (fromBelow u) mb)

/-- The columns moved right by one, the first kept in place. -/
def fromLeft (o : FVec Ideal S1024x256 .f32) : FVec Ideal S1024x256 .f32 :=
  concatenate S1024x256 1 [⟨S1024x1, extractStridedSlice S1024x1 ![0, 0] o slices_S1024x256_o0_0_S1024x1⟩,
    ⟨S1024x255, extractStridedSlice S1024x255 ![0, 0] o slices_S1024x256_o0_0_S1024x255⟩] concatenates_S1024x1_S1024x255_S1024x256_d1

/-- The columns moved left by one, the last kept in place. -/
def fromRight (o : FVec Ideal S1024x256 .f32) : FVec Ideal S1024x256 .f32 :=
  concatenate S1024x256 1 [⟨S1024x255, extractStridedSlice S1024x255 ![0, 1] o slices_S1024x256_o0_1_S1024x255⟩,
    ⟨S1024x1, extractStridedSlice S1024x1 ![0, 255] o slices_S1024x256_o0_255_S1024x1⟩] concatenates_S1024x255_S1024x1_S1024x256_d1

/-- Column stage: three blocks of 256 columns, each entry against its left neighbour, both neighbours, its right neighbour. -/
def colMax (o : FVec Ideal S1024x256 .f32) : FVec Ideal S1024x768 .f32 :=
  concatenate S1024x768 1 [⟨S1024x256, maximumf (fromLeft o) o⟩, ⟨S1024x256, maximumf (maximumf (fromLeft o) o) (fromRight o)⟩,
    ⟨S1024x256, maximumf o (fromRight o)⟩] concatenates_S1024x256_S1024x256_S1024x256_S1024x768_d1

/-- The selection of the columns: the stacked blocks against a 0/1 matrix. -/
def pick (l : FVec Ideal S1024x768 .f32) (e : FVec Ideal S768x1024 .bf16) : FVec Ideal S1x1024x1024 .f32 :=
  shapeCast S1x1024x1024 (matmul dot_S1024x768_S768x1024_S1024x1024_1_0_0_1_n_n none (truncf .bf16 l bitsLt_bf16_f32)
    (shapeCast S768x1024 e shapeCasts_S768x1024_S768x1024) (constant S1024x1024 .f32 0x00000000#32)) shapeCasts_S1024x1024_S1x1024x1024

/-- A row mask of 128 columns laid out twice. -/
def twice (a : FVec Ideal S1024x128 .f32) : FVec Ideal S1024x256 .f32 :=
  concatenate S1024x256 1 [⟨S1024x128, shapeCast S1024x128 a shapeCasts_S1024x128_S1024x128⟩,
    ⟨S1024x128, shapeCast S1024x128 a shapeCasts_S1024x128_S1024x128⟩] concatenates_S1024x128_S1024x128_S1024x256_d1

/-- All stages, from one image's block. -/
def image (x : FVec Ideal S1x256x256 .bf16) (e : FVec Ideal S1024x256 .bf16) (s : FVec Ideal S768x1024 .bf16)
    (a b : FVec Ideal S1024x128 .f32) : FVec Ideal S1x1024x1024 .f32 :=
  pick (colMax (rowMax (twice a) (twice b) (expand (shapeCast S256x256 x shapeCasts_S1x256x256_S256x256) e))) s

/-! ## The four images of a block are computed alike -/

variable (x : FVec Ideal S1x256x256 .bf16) (e : FVec Ideal S1024x256 .bf16) (s : FVec Ideal S768x1024 .bf16) (a b : FVec Ideal S1024x128 .f32)

/-- The first image of a block. -/
theorem first_eq : k0_pay5 (k0_pay4 a a b b x e s) = image x e s a b := rfl
/-- The second image of a block. -/
theorem second_eq : k0_pay6 (k0_pay2 a a) (k0_pay3 b b) x e s = image x e s a b := rfl
/-- The third image of a block. -/
theorem third_eq : k0_pay8 (k0_pay2 a a) (k0_pay3 b b) (k0_pay7 x) e s = image x e s a b := rfl
/-- The fourth image of a block. -/
theorem fourth_eq : k0_pay1 (k0_pay2 a a) (k0_pay3 b b) (k0_pay9 x e) (k0_pay10 x e) s = image x e s a b := rfl

/-! ## The stages at an index -/

/-- The row expansion at an index. -/
theorem expand_apply (v : FVec Ideal S256x256 .bf16) (he : ∀ (p : Fin 1024) (k : Fin 256), e (ix2 p k) = if p.val / 4 = k.val then (1 : EReal) else 0)
    (p : Fin 1024) (j : Fin 256) : expand v e (ix2 p j) = max (v (ix2 (quo p) j)) 0 := by
  refine Eq.trans ?_ (sum_select (fun k => max (v (ix2 k j) : EReal) 0) (quo p))
  pointwise [expand, he]
  rfl

/-- The rows moved down, where the row at `p` is the entry of `f` at the pixel under `p`. -/
theorem fromAbove_apply (u : FVec Ideal S1024x256 .f32) (f : Fin 256 → Fin 256 → EReal) (hu : ∀ p j, u (ix2 p j) = f (quo p) j)
    (p : Fin 1024) (j : Fin 256) : fromAbove u (ix2 p j) = f (prev (quo p)) j := by
  pointwise [fromAbove]
  split_ifs with h <;> rw [hu] <;>
    exact congrArg (fun k => f k j) (Fin.ext (by simp only [quo, prev]; omega))

/-- The rows moved up, likewise. -/
theorem fromBelow_apply (u : FVec Ideal S1024x256 .f32) (f : Fin 256 → Fin 256 → EReal) (hu : ∀ p j, u (ix2 p j) = f (quo p) j)
    (p : Fin 1024) (j : Fin 256) : fromBelow u (ix2 p j) = f (next (quo p)) j := by
  pointwise [fromBelow]
  by_cases h : p.val < 1020
  all_goals simp only [h, ↓reduceDIte]
  all_goals rw [hu]
  all_goals refine congrArg (fun k => f k j) (Fin.ext ?_)
  · rw [next_val, if_pos (show (quo p).val < 255 by simp only [quo]; omega)]
    simp only [quo]; omega
  · rw [next_val, if_neg (show ¬ (quo p).val < 255 by simp only [quo]; omega)]
    simp only [quo]; omega

/-- The columns moved right, at an index. -/
theorem fromLeft_apply (o : FVec Ideal S1024x256 .f32) (p : Fin 1024) (j : Fin 256) :
    fromLeft o (ix2 p j) = o (ix2 p (prev j)) := by
  pointwise [fromLeft]
  split_ifs with h <;> refine congrArg (fun k => o (ix2 p k)) (Fin.ext ?_) <;> simp only [prev] <;> omega

/-- The columns moved left, at an index. -/
theorem fromRight_apply (o : FVec Ideal S1024x256 .f32) (p : Fin 1024) (j : Fin 256) :
    fromRight o (ix2 p j) = o (ix2 p (next j)) := by
  pointwise [fromRight]
  by_cases h : j.val < 255
  all_goals simp only [h, ↓reduceDIte]
  all_goals refine congrArg (fun k => o (ix2 p k)) (Fin.ext ?_)
  · rw [next_val, if_pos h]; dsimp only; omega
  · rw [next_val, if_neg h]; dsimp only; omega

/-- The mask laid out twice, at an index. -/
theorem twice_apply (f : Fin 1024 → EReal) (ha : ∀ p l, a (ix2 p l) = f p) (p : Fin 1024) (j : Fin 256) : twice a (ix2 p j) = f p := by
  pointwise [twice, ha]
  split_ifs <;> rfl

/-- The selection of the columns at an index. -/
theorem pick_apply (l : FVec Ideal S1024x768 .f32) (hs : ∀ (k : Fin 768) (p : Fin 1024), s (ix2 k p) = if k.val = src p.val then (1 : EReal) else 0)
    (z : Fin 1) (p q : Fin 1024) : pick l s (ix3 z p q) = l (ix2 p (⟨src q.val, src_lt q⟩ : Fin 768)) := by
  refine Eq.trans ?_ (sum_select' (fun k => (l (ix2 p k) : EReal)) (⟨src q.val, src_lt q⟩ : Fin 768))
  pointwise [pick, hs]

/-- The stacked blocks at the column that lane `q` reads. -/
theorem colMax_apply (o : FVec Ideal S1024x256 .f32) (p q : Fin 1024) :
    colMax o (ix2 p (⟨src q.val, src_lt q⟩ : Fin 768)) =
      if q.val % 4 = 0 then max (o (ix2 p (prev (quo q))) : EReal) (o (ix2 p (quo q)))
      else if q.val % 4 = 3 then max (o (ix2 p (quo q)) : EReal) (o (ix2 p (next (quo q))))
      else max (max (o (ix2 p (prev (quo q))) : EReal) (o (ix2 p (quo q)))) (o (ix2 p (next (quo q)))) := by
  have hq := q.isLt
  pointwise [colMax, fromLeft_apply, fromRight_apply]
  have hlt := src_lt q
  have e0 : ∀ h : q.val / 4 < 256, (⟨q.val / 4, h⟩ : Fin 256) = quo q := fun _ => rfl
  by_cases h0 : q.val % 4 = 0
  · have hv : src q.val = q.val / 4 := by unfold src; rw [if_pos h0]
    simp only [hv, h0, show q.val / 4 < 256 by omega, ↓reduceDIte, ↓reduceIte, e0]
  by_cases h3 : q.val % 4 = 3
  · have hv : src q.val = 512 + q.val / 4 := by unfold src; rw [if_neg h0, if_pos h3]
    have w : 512 + q.val / 4 - 256 - 256 = q.val / 4 := by omega
    simp only [hv, h0, h3, show ¬ 512 + q.val / 4 < 256 by omega, show ¬ 512 + q.val / 4 - 256 < 256 by omega, w, ↓reduceDIte, ↓reduceIte, e0]
    rfl
  · have hv : src q.val = 256 + q.val / 4 := by unfold src; rw [if_neg h0, if_neg h3]
    have w : 256 + q.val / 4 - 256 = q.val / 4 := by omega
    simp only [hv, h0, h3, show ¬ 256 + q.val / 4 < 256 by omega, show q.val / 4 < 256 by omega, w, ↓reduceDIte, ↓reduceIte, e0]

/-- The row stage at an index. -/
theorem rowMax_apply (ma mb u : FVec Ideal S1024x256 .f32) (f : Fin 256 → Fin 256 → EReal) (hu : ∀ p j, u (ix2 p j) = f (quo p) j)
    (ha : ∀ (p : Fin 1024) (j : Fin 256), ma (ix2 p j) = if p.val % 4 ≤ 2 then (1 : EReal) else 0)
    (hb : ∀ (p : Fin 1024) (j : Fin 256), mb (ix2 p j) = if 1 ≤ p.val % 4 then (1 : EReal) else 0) (p : Fin 1024) (j : Fin 256) :
    rowMax ma mb u (ix2 p j) = max (max (f (quo p) j) (if p.val % 4 ≤ 2 then f (prev (quo p)) j else 0))
      (if 1 ≤ p.val % 4 then f (next (quo p)) j else 0) := by
  pointwise [rowMax, fromAbove_apply u f hu, fromBelow_apply u f hu, ha, hb]
  rw [hu]
  simp only [mul_ite, mul_one, mul_zero]

/-- One image's result: at `(p, q)` the maximum of 0 and of the pixels that `(p, q)` sees. -/
theorem image_apply (he : ∀ (p : Fin 1024) (k : Fin 256), e (ix2 p k) = if p.val / 4 = k.val then (1 : EReal) else 0)
    (hs : ∀ (k : Fin 768) (p : Fin 1024), s (ix2 k p) = if k.val = src p.val then (1 : EReal) else 0)
    (ha : ∀ (p : Fin 1024) (l : Fin 128), a (ix2 p l) = if p.val % 4 ≤ 2 then (1 : EReal) else 0)
    (hb : ∀ (p : Fin 1024) (l : Fin 128), b (ix2 p l) = if 1 ≤ p.val % 4 then (1 : EReal) else 0)
    (v : Fin 256 → Fin 256 → EReal) (hx : ∀ i j, x (ix3 (0 : Fin 1) i j) = v i j)
    (z : Fin 1) (p q : Fin 1024) : image x e s a b (ix3 z p q) = best v p q := by
  have hu : ∀ p j, expand (shapeCast S256x256 x shapeCasts_S1x256x256_S256x256) e (ix2 p j) = (fun i j => max (v i j) 0) (quo p) j := by
    intro p j
    rw [expand_apply e _ he]
    pointwise [hx]
  refine eq_best fun c => ?_
  unfold image
  rw [pick_apply s _ hs, colMax_apply]
  refine (cols_le_iff (fun j => rowMax _ _ _ (ix2 p j)) q c).trans (window_le_iff v p q c _ fun j => ?_)
  rw [rowMax_apply _ _ _ (fun i j => max (v i j) 0) hu (twice_apply a _ ha) (twice_apply b _ hb)]
  exact rows_le_iff (fun i => v i j) p c

end Cert.KernelIdeal.Own
-- ==== Proof.Host.lean ====
/- What the launch finds in the arrays that the kernel's windows read, one element at a time: the input image, the two
   selection matrices and the two row masks. -/
module

public import proofs.«01_k».proof.Proof.Gen.KernelIdeal.Value
public import proofs.«01_k».proof.Proof.Words
public import Idealize.ShloMosaic.Lib.StableHlo.ReadAt

@[expose] public section

set_option maxRecDepth 16384

noncomputable section

open Idealize.ShloMosaic Idealize.ShloMosaic.TcCoe Idealize.SL.Sem

namespace Cert.KernelIdeal.Own
open Cert.KernelIdeal Cert.KernelIdeal.Gen

variable (m : (ℓ : Loc nD τ sig) → Buf (Elt Ideal) ℓ)

/-- The image of map `a` (batch `a / 3`, channel `a % 3`) at row `x` and column `y` of the launch's argument. -/
def img (c : Dev nD) (a : Fin 48) (x y : Fin 256) : EReal :=
  m ((c : Thread nD τ).loc main_arg0) (ix4 (⟨a.val / 3, by omega⟩ : Fin 16) x y (⟨a.val % 3, by omega⟩ : Fin 64))

/-- The first window's array holds the 48 images. -/
theorem images_at (c : Dev nD) (a : Fin 48) (x y : Fin 256) : V m c main_v3 (ix3 a x y) = img m c a x y := by
  unfold V img
  after_reads_at

/-- The second window's array is the row expansion: row `p` selects image row `p / 4`. -/
theorem expand_at (c : Dev nD) (p : Fin 1024) (x : Fin 256) :
    V m c main_v13 (ix2 p x) = if p.val / 4 = x.val then (1 : EReal) else 0 := by
  unfold V
  after_reads_at
  change FloatOps.uitofp .bf16 (IntOp.cmpi .eq (quotW (BitVec.ofNat 32 p.val)) (BitVec.ofNat 32 x.val)) = _
  rw [quotW_ofNat]
  exact uitofp_eq .bf16 _ _ (by omega) (by omega)

/-- The third window's array is the column selection: column `p` selects column `src p` of the stacked blocks. -/
theorem select_at (c : Dev nD) (k : Fin 768) (p : Fin 1024) :
    V m c main_v30 (ix2 k p) = if k.val = src p.val then (1 : EReal) else 0 := by
  unfold V
  after_reads_at
  change FloatOps.uitofp .bf16 (IntOp.cmpi .eq (BitVec.ofNat 32 k.val) (srcW (BitVec.ofNat 32 p.val))) = _
  rw [srcW_ofNat]
  exact uitofp_eq .bf16 _ _ (by omega) ((src_lt p).trans (by omega))

/-- The fourth window's array marks the rows whose remainder by 4 is at most 2. -/
theorem above_at (c : Dev nD) (p : Fin 1024) (l : Fin 128) :
    V m c main_v37 (ix2 p l) = if p.val % 4 ≤ 2 then (1 : EReal) else 0 := by
  unfold V
  after_reads_at
  exact uitofp_rem_le .f32 p

/-- The fifth window's array marks the rows whose remainder by 4 is at least 1. -/
theorem below_at (c : Dev nD) (p : Fin 1024) (l : Fin 128) :
    V m c main_v44 (ix2 p l) = if 1 ≤ p.val % 4 then (1 : EReal) else 0 := by
  unfold V
  after_reads_at
  exact uitofp_rem_ge .f32 p

end Cert.KernelIdeal.Own
-- ==== Proof.Array.lean ====
/- The result array after the launch: its element at map `a` and position `(p, q)` is the maximum of 0 and of the pixels of
   image `a` that `(p, q)` sees. -/
module

public import proofs.«01_k».proof.Proof.Gen.KernelIdeal.Value
public import proofs.«01_k».proof.Proof.Body
public import proofs.«01_k».proof.Proof.Host
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Own
open Cert.KernelIdeal Cert.KernelIdeal.Gen

variable (m : (ℓ : Loc nD τ sig) → Buf (Elt Ideal) ℓ)

/-- Where each window's block lies at each of the 12 grid points. -/
theorem block_index : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] ∧ t.val < 12 :=
  (by decide +kernel : ∀ t : Fin grid0.N, _)

/-- The first window's block at grid point `t`: images `4 t` to `4 t + 3`. -/
theorem block_images (c : Dev nD) (t : Fin cfg0.N) (g : Fin 4) (x y : Fin 256) (a : Fin 48) (ha : a.val = 4 * t.val + g.val) :
    iblk m c 0 t (ix3 g x y) = img m c a x y := by
  rw [← images_at]
  blk_ext [iblk, block_index t]

/-- The second window's block is the whole row expansion. -/
theorem block_expand (c : Dev nD) (t : Fin cfg0.N) (p : Fin 1024) (x : Fin 256) :
    iblk m c 1 t (ix2 p x) = if p.val / 4 = x.val then (1 : EReal) else 0 := by
  rw [← expand_at m c]
  blk_ext [iblk, block_index t]

/-- The third window's block is the whole column selection. -/
theorem block_select (c : Dev nD) (t : Fin cfg0.N) (k : Fin 768) (p : Fin 1024) :
    iblk m c 2 t (ix2 k p) = if k.val = src p.val then (1 : EReal) else 0 := by
  rw [← select_at m c]
  blk_ext [iblk, block_index t]

/-- The fourth window's block is the whole first mask. -/
theorem block_above (c : Dev nD) (t : Fin cfg0.N) (p : Fin 1024) (l : Fin 128) :
    iblk m c 3 t (ix2 p l) = if p.val % 4 ≤ 2 then (1 : EReal) else 0 := by
  rw [← above_at m c p l]
  blk_ext [iblk, block_index t]

/-- The fifth window's block is the whole second mask. -/
theorem block_below (c : Dev nD) (t : Fin cfg0.N) (p : Fin 1024) (l : Fin 128) :
    iblk m c 4 t (ix2 p l) = if 1 ≤ p.val % 4 then (1 : EReal) else 0 := by
  rw [← below_at m c p l]
  blk_ext [iblk, block_index t]

/-- One image of grid point `t`, from any block that holds image `a`. -/
theorem piece_apply (c : Dev nD) (t : Fin cfg0.N) (x : FVec Ideal S1x256x256 .bf16) (y : S1x1024x1024.Idx) (a : Fin 48) (p q : Fin 1024)
    (hx : ∀ i j, x (ix3 (0 : Fin 1) i j) = img m c a i j) (hp : p.val = (y 1 : ℕ)) (hq : q.val = (y 2 : ℕ)) :
    image x (View.ld (iblk m c 1 t) r0_2) (View.ld (iblk m c 2 t) r0_3) (View.ld (iblk m c 3 t) r0_0) (View.ld (iblk m c 4 t) r0_0) y
      = best (img m c a) p q := by
  have hy : y = ix3 (y 0) p q := by
    funext k; refine Fin.ext ?_
    match k with
    | 0 => rfl
    | 1 => exact hp.symm
    | 2 => exact hq.symm
  rw [hy]
  refine image_apply x _ _ _ _ (fun p k => ?_) (fun k p => ?_) (fun p l => ?_) (fun p l => ?_) (img m c a) hx _ p q
  · rw [← block_expand m c t]; pointwise
  · rw [← block_select m c t]; pointwise
  · rw [← block_above m c t p l]; pointwise
  · rw [← block_below m c t p l]; pointwise

/-- What grid point `t` leaves in its output block at image `g` of the block. -/
theorem block_apply (c : Dev nD) (t : Fin cfg0.N) (y : S4x1024x1024.Idx) (a : Fin 48) (p q : Fin 1024)
    (ha : a.val = 4 * t.val + (y 0 : ℕ)) (hp : p.val = (y 1 : ℕ)) (hq : q.val = (y 2 : ℕ)) :
    out0_5 (iblk m c 0 t) (iblk m c 1 t) (iblk m c 2 t) (iblk m c 3 t) (iblk m c 4 t) y = best (img m c a) p q := by
  unfold_out out0_5
  canon_tiles y h
  · rw [fourth_eq]
    refine piece_apply m c t _ y a p q (fun i j => ?_) (by omega) (by omega)
    rw [← block_images m c t 3 i j a (by omega)]
    pointwise
  · rw [third_eq]
    refine piece_apply m c t _ y a p q (fun i j => ?_) (by omega) (by omega)
    rw [← block_images m c t 2 i j a (by omega)]
    pointwise
  · rw [second_eq]
    refine piece_apply m c t _ y a p q (fun i j => ?_) (by omega) (by omega)
    rw [← block_images m c t 1 i j a (by omega)]
    pointwise
  · rw [first_eq]
    refine piece_apply m c t _ y a p q (fun i j => ?_) (by omega) (by omega)
    rw [← block_images m c t 0 i j a (by omega)]
    pointwise

/-- The result array after the launch, as one function of the argument. -/
def result (c : Dev nD) : FVec Ideal S48x1024x1024 .f32 := fun i => best (img m c (i 0)) (i 1) (i 2)

/-- The result array after the launch is `result`. -/
theorem final (c : Dev nD) : (dats m 0 c).arrAt 5 (cfgs 0).N = result m c := by
  refine (dats m 0 c).arrAt_eq_of_covers 5 _ (by decide +kernel) fun t _ y => ?_
  blk_simp
  rw [after0_5]
  refine block_apply m c t y _ _ _ ?_ ?_ ?_
  all_goals (blk_simp [block_index t] <;> try omega)

end Cert.KernelIdeal.Own
-- ==== Proof.RefValue.lean ====
/- What the reference computes, read at an index: a maximum over a 10 by 10 window of the padded image, then the maximum
   with 0. -/
module

public import proofs.«01_k».proof.Proof.Gen.ReferenceIdeal.Run
public import proofs.«01_k».proof.Proof.Window
public import Idealize.ShloMosaic.Lib.Pointwise

@[expose] public section

set_option maxRecDepth 16384

noncomputable section

open Idealize.ShloMosaic Idealize.ShloMosaic.TcCoe Idealize.SL.Sem

namespace Cert.ReferenceIdeal.Own
open Cert.ReferenceIdeal Cert.ReferenceIdeal.Gen Cert.KernelIdeal.Own

/-- A left fold of `max` is bounded by `c` exactly when its start and all its terms are. -/
theorem foldl_max_le {β : Type} (g : β → EReal) (c : EReal) : ∀ (l : List β) (v : EReal),
    l.foldl (fun r n => max r (g n)) v ≤ c ↔ v ≤ c ∧ ∀ n ∈ l, g n ≤ c
  | [], v => by simp
  | b :: l, v => by
    rw [List.foldl_cons, foldl_max_le g c l, max_le_iff]
    simp only [List.mem_cons, forall_eq_or_imp, and_assoc]

/-- The batch of 48 images as the reference lays them out: 16 batches of 3 channels. -/
def channels (X : FVec Ideal S16x256x256x64 .f32) : FVec Ideal S16x3x256x256 .f32 :=
  transpose S16x3x256x256 [0, 3, 1, 2] (extractStridedSlice S16x256x256x3 ![0, 0, 0, 0] X slices_S16x256x256x64_S16x256x256x3_0_0_0_0)
    transposes_S16x256x256x3_S16x3x256x256_0_3_1_2

/-- The images spread out, with three entries of −∞ between neighbours on each axis. -/
def spread (Y : FVec Ideal S16x3x256x256 .f32) : FVec Ideal S16x3x1021x1021 .f32 :=
  pad S16x3x1021x1021 ![0, 0, 0, 0] ![0, 0, 0, 0] ![0, 0, 3, 3] Y (constant S_ .f32 0xFF800000#32)
    pads_S16x3x256x256_S16x3x1021x1021_000_000_003_003 h_S_

/-- The maxima over the windows. -/
def windows (Z : FVec Ideal S16x3x1021x1021 .f32) : FVec Ideal S16x3x1024x1024 .f32 :=
  Host.reduceWindow FloatOps.maximumf ![1, 1, 10, 10] ![1, 1, 1, 1] ![0, 0, 6, 6] ![0, 0, 6, 6] Z (constant S_ .f32 0xFF800000#32)
    reduceWindows_S16x3x1021x1021_S16x3x1024x1024_w1s1p0_0_w1s1p0_0_w10s1p6_6_w10s1p6_6 h_S_

/-- The reference's result. -/
def result (X : FVec Ideal S16x256x256x64 .f32) : FVec Ideal S48x1024x1024 .f32 :=
  shapeCast S48x1024x1024 (maximumf (windows (spread (channels X)))
    (broadcastInDim S16x3x1024x1024 ![] bcast_S_S16x3x1024x1024 (constant S_ .f32 0x00000000#32))) shapeCasts_S16x3x1024x1024_S48x1024x1024

/-- The bit pattern of the reference's start value is −∞. -/
theorem neg_inf : (Ideal.ofBits .f32 0xFF800000#32 : EReal) = ⊥ := by
  simp [Ideal.ofBits, Ideal.ieee]

/-- The reference's start value is −∞. -/
theorem start_eq (i : S_.Idx) : (constant S_ .f32 0xFF800000#32 : FVec Ideal S_ .f32) i = (⊥ : EReal) := by
  pointwise
  exact neg_inf

/-- The images at an index. -/
theorem channels_apply (X : FVec Ideal S16x256x256x64 .f32) (a : Fin 16) (b : Fin 3) (x y : Fin 256) :
    channels X (ix4 a b x y) = X (ix4 a x y (⟨b.val, by omega⟩ : Fin 64)) := by
  pointwise [channels]

/-- The spread images at an index: a pixel where both coordinates are multiples of 4, −∞ elsewhere. -/
theorem spread_apply (Y : FVec Ideal S16x3x256x256 .f32) (a : Fin 16) (b : Fin 3) (i j : Fin 1021) :
    spread Y (ix4 a b i j) = if i.val % 4 = 0 ∧ j.val % 4 = 0 then
      (Y (ix4 a b (⟨i.val / 4, by omega⟩ : Fin 256) (⟨j.val / 4, by omega⟩ : Fin 256)) : EReal) else ⊥ := by
  pointwise [spread]
  by_cases h : i.val % 4 = 0 ∧ j.val % 4 = 0
  · rw [dif_pos ⟨⟨h.1, by omega⟩, h.2, by omega⟩, if_pos h]
  · rw [dif_neg (fun h' => h ⟨h'.1.1, h'.2.1⟩), if_neg h]
    exact neg_inf

/-- A value that is −∞ unless a condition holds is bounded exactly when it is under the condition. -/
theorem dite_bot_le {P : Prop} {dec : Decidable P} (f : P → EReal) (c : EReal) : (if h : P then f h else ⊥) ≤ c ↔ ∀ h : P, f h ≤ c := by
  by_cases h : P
  · rw [dif_pos h]; exact ⟨fun hc _ => hc, fun hc => hc h⟩
  · rw [dif_neg h]; exact ⟨fun _ h' => absurd h' h, fun _ => bot_le⟩

/-- The shape of a window. -/
abbrev Win : Shape := ⟨S16x3x1021x1021.rank, ![1, 1, 10, 10]⟩

/-- A window's maximum is bounded by `c` exactly when every entry that lies in the window is. -/
theorem windows_le_iff (Z : FVec Ideal S16x3x1021x1021 .f32) (a : Fin 16) (b : Fin 3) (p q : Fin 1024) (c : EReal) :
    (windows Z (ix4 a b p q) : EReal) ≤ c ↔ ∀ i j : Fin 1021, p.val ≤ i.val + 6 → i.val ≤ p.val + 3 → q.val ≤ j.val + 6 → j.val ≤ q.val + 3 →
      (Z (ix4 a b i j) : EReal) ≤ c := by
  unfold windows Host.reduceWindow
  refine (foldl_max_le _ c _ _).trans ?_
  rw [start_eq]
  constructor
  · rintro ⟨-, h⟩ i j hi1 hi2 hj1 hj2
    obtain ⟨n, hn⟩ := Win.rowMajor.symm.surjective
      (ix4 (0 : Fin 1) (0 : Fin 1) (⟨i.val + 6 - p.val, by omega⟩ : Fin 10) (⟨j.val + 6 - q.val, by omega⟩ : Fin 10))
    have n0 : (Win.rowMajor.symm n 0).val = 0 := by rw [hn]; rfl
    have n1 : (Win.rowMajor.symm n 1).val = 0 := by rw [hn]; rfl
    have n2 : (Win.rowMajor.symm n 2).val = i.val + 6 - p.val := by rw [hn]; rfl
    have n3 : (Win.rowMajor.symm n 3).val = j.val + 6 - q.val := by rw [hn]; rfl
    have hw := (dite_bot_le _ c).mp (h n (List.mem_finRange _)) fun k => by
      match k with
      | ⟨0, _⟩ =>
        show 0 ≤ a.val * 1 + (Win.rowMajor.symm n 0).val ∧ a.val * 1 + (Win.rowMajor.symm n 0).val - 0 < 16
        omega
      | ⟨1, _⟩ =>
        show 0 ≤ b.val * 1 + (Win.rowMajor.symm n 1).val ∧ b.val * 1 + (Win.rowMajor.symm n 1).val - 0 < 3
        omega
      | ⟨2, _⟩ =>
        show 6 ≤ p.val * 1 + (Win.rowMajor.symm n 2).val ∧ p.val * 1 + (Win.rowMajor.symm n 2).val - 6 < 1021
        omega
      | ⟨3, _⟩ =>
        show 6 ≤ q.val * 1 + (Win.rowMajor.symm n 3).val ∧ q.val * 1 + (Win.rowMajor.symm n 3).val - 6 < 1021
        omega
    refine le_of_eq_of_le (congrArg Z (funext fun k => Fin.ext ?_)) hw
    match k with
    | ⟨0, _⟩ =>
      show a.val = a.val * 1 + (Win.rowMajor.symm n 0).val - 0
      omega
    | ⟨1, _⟩ =>
      show b.val = b.val * 1 + (Win.rowMajor.symm n 1).val - 0
      omega
    | ⟨2, _⟩ =>
      show i.val = p.val * 1 + (Win.rowMajor.symm n 2).val - 6
      omega
    | ⟨3, _⟩ =>
      show j.val = q.val * 1 + (Win.rowMajor.symm n 3).val - 6
      omega
  · intro h
    refine ⟨bot_le, fun n _ => (dite_bot_le _ c).mpr fun hin => ?_⟩
    have n0 : (Win.rowMajor.symm n 0).val < 1 := (Win.rowMajor.symm n 0).isLt
    have n1 : (Win.rowMajor.symm n 1).val < 1 := (Win.rowMajor.symm n 1).isLt
    have n2 : (Win.rowMajor.symm n 2).val < 10 := (Win.rowMajor.symm n 2).isLt
    have n3 : (Win.rowMajor.symm n 3).val < 10 := (Win.rowMajor.symm n 3).isLt
    have h2 : 6 ≤ p.val * 1 + (Win.rowMajor.symm n 2).val ∧ p.val * 1 + (Win.rowMajor.symm n 2).val - 6 < 1021 := hin 2
    have h3 : 6 ≤ q.val * 1 + (Win.rowMajor.symm n 3).val ∧ q.val * 1 + (Win.rowMajor.symm n 3).val - 6 < 1021 := hin 3
    refine le_of_eq_of_le (congrArg Z (funext fun k => Fin.ext ?_))
      (h ⟨p.val + (Win.rowMajor.symm n 2).val - 6, by omega⟩ ⟨q.val + (Win.rowMajor.symm n 3).val - 6, by omega⟩ ?_ ?_ ?_ ?_)
    · match k with
      | ⟨0, _⟩ =>
        show a.val * 1 + (Win.rowMajor.symm n 0).val - 0 = a.val
        omega
      | ⟨1, _⟩ =>
        show b.val * 1 + (Win.rowMajor.symm n 1).val - 0 = b.val
        omega
      | ⟨2, _⟩ =>
        show p.val * 1 + (Win.rowMajor.symm n 2).val - 6 = p.val + (Win.rowMajor.symm n 2).val - 6
        omega
      | ⟨3, _⟩ =>
        show q.val * 1 + (Win.rowMajor.symm n 3).val - 6 = q.val + (Win.rowMajor.symm n 3).val - 6
        omega
    all_goals dsimp only; omega

/-- Over the spread images a window's entries are the pixels that the output position sees, and −∞. -/
theorem windows_spread_le_iff (Y : FVec Ideal S16x3x256x256 .f32) (a : Fin 16) (b : Fin 3) (p q : Fin 1024) (c : EReal) :
    (windows (spread Y) (ix4 a b p q) : EReal) ≤ c ↔ ∀ x, Sees p x → ∀ y, Sees q y → (Y (ix4 a b x y) : EReal) ≤ c := by
  rw [windows_le_iff]
  constructor
  · rintro h x ⟨hx1, hx2⟩ y ⟨hy1, hy2⟩
    have hz := h ⟨4 * x.val, by omega⟩ ⟨4 * y.val, by omega⟩ hx1 hx2 hy1 hy2
    rw [spread_apply, if_pos ⟨by dsimp only; omega, by dsimp only; omega⟩] at hz
    refine le_of_eq_of_le (congrArg₂ (fun i j => Y (ix4 a b i j)) (Fin.ext ?_) (Fin.ext ?_)) hz <;> dsimp only <;> omega
  · intro h i j hi1 hi2 hj1 hj2
    rw [spread_apply]
    split_ifs with hm
    · refine h _ ⟨?_, ?_⟩ _ ⟨?_, ?_⟩ <;> dsimp only <;> omega
    · exact bot_le

/-- The reference's result at map `a` and position `(p, q)`: the maximum of 0 and of the pixels that `(p, q)` sees. -/
theorem result_apply (X : FVec Ideal S16x256x256x64 .f32) (a : Fin 48) (p q : Fin 1024) :
    result X (ix3 a p q) = best (fun x y => X (ix4 (⟨a.val / 3, by omega⟩ : Fin 16) x y (⟨a.val % 3, by omega⟩ : Fin 64))) p q := by
  pointwise [result]
  refine eq_best fun c => ?_
  rw [max_le_iff, windows_spread_le_iff]
  simp only [channels_apply]
  exact and_comm

end Cert.ReferenceIdeal.Own
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Array
public import proofs.«01_k».proof.Proof.RefValue
public import Idealize.ShloMosaic.Lib.Quiescent

@[expose] public section

noncomputable section

namespace Cert.Proof

open Idealize.ShloMosaic Idealize.ShloMosaic.TcCoe Idealize.SL.Sem

/-- The kernel runs, its argument ends unchanged and its counters end at zero. -/
theorem frame_kernel : Cert.quiescent_Kernel := fun m ρ _ => Cert.Kernel.Gen.frame m ρ

/-- The same of the idealized kernel. -/
theorem frame_ideal : Cert.quiescent_KernelIdeal := fun m ρ _ => Cert.KernelIdeal.Gen.frame m ρ

/-- The same of the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From one argument both programs' results are the same function of it. -/
theorem results_eq (m : (ℓ : Loc Cert.KernelIdeal.nD Cert.KernelIdeal.τ Cert.KernelIdeal.sig) → Buf (Elt Ideal) ℓ) (c : Dev Cert.KernelIdeal.nD) :
    Cert.ReferenceIdeal.Own.result (m ((c : Thread Cert.KernelIdeal.nD Cert.KernelIdeal.τ).loc Cert.KernelIdeal.main_arg0))
      = Cert.KernelIdeal.Own.result m c := by
  funext i
  idx_vars i
  exact Cert.ReferenceIdeal.Own.result_apply _ _ _ _

/-- Over the extended reals the kernel's result is the reference's. -/
theorem algebraic : Cert.algebraic_KernelIdeal_ReferenceIdeal := by
  intro m ρ m' ρ' _ hagree
  refine ⟨fun c => Cert.KernelIdeal.Own.result m c, ?_, ?_⟩
  · exact (θ_run Cert.KernelIdeal.defs _ _).mono
      (fun _ h c => ⟨(h c).1.trans (Cert.KernelIdeal.Own.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [hagree c]
    exact results_eq m c

/-- The certificate's claim. -/
theorem claim : Cert.Claim := ⟨Cert.Kernel.Gen.facts, Cert.KernelIdeal.Gen.facts, Cert.ReferenceIdeal.Gen.facts,
  frame_kernel, frame_ideal, frame_reference, trivial, algebraic⟩

end Cert.Proof

end
